-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4x384x224x224 : Shape := ⟨4, ![4, 384, 224, 224]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel

variable [Facts]

def fn {F : FTy → Type} [FloatOps F] (main_arg0 : FVec F S4x384x224x224 .f32) : IVec S_ 1 :=
  let main_cst : FVec F S_ .f32 := constant S_ .f32 0x7F800000#32
  let main_v0 : FVec F S4x384x224x224 .f32 := broadcastInDim S4x384x224x224 ![] bcast_S_S4x384x224x224 main_cst
  let main_v1 : IVec S4x384x224x224 1 := cmpf .olt main_arg0 main_v0
  let main_c : IVec S_ 1 := constantI S_ 1 1#1
  let main_v2 : IVec S_ 1 := (fun x v => Host.reduce IntOp.andi x v reducesTo_S4x384x224x224_S_d0_1_2_3 h_S_) main_v1 main_c
  main_v2
-- ==== Kernel.lean ====
abbrev S4x384x224x224 : Shape := ⟨4, ![4, 384, 224, 224]⟩
abbrev S4x2x2x384x112x112 : Shape := ⟨6, ![4, 2, 2, 384, 112, 112]⟩
abbrev S1x8x224x224 : Shape := ⟨4, ![1, 8, 224, 224]⟩
abbrev S1x1x2x8x112x112 : Shape := ⟨6, ![1, 1, 2, 8, 112, 112]⟩
abbrev S8x224x224 : Shape := ⟨3, ![8, 224, 224]⟩
abbrev S224x256 : Shape := ⟨2, ![224, 256]⟩
abbrev S112x224 : Shape := ⟨2, ![112, 224]⟩
abbrev S1x224x224 : Shape := ⟨3, ![1, 224, 224]⟩
abbrev S224x224 : Shape := ⟨2, ![224, 224]⟩
abbrev S1x112x224 : Shape := ⟨3, ![1, 112, 224]⟩
abbrev S8x112x224 : Shape := ⟨3, ![8, 112, 224]⟩
abbrev S896x224 : Shape := ⟨2, ![896, 224]⟩
abbrev S896x256 : Shape := ⟨2, ![896, 256]⟩
abbrev S8x112x256 : Shape := ⟨3, ![8, 112, 256]⟩
abbrev S8x112x112 : Shape := ⟨3, ![8, 112, 112]⟩
abbrev S1x1x1x8x112x112 : Shape := ⟨6, ![1, 1, 1, 8, 112, 112]⟩
abbrev S4x1536x112x112 : Shape := ⟨4, ![4, 1536, 112, 112]⟩

abbrev nBuf : Space → Nat
  | .hbm => 3
  | .vmem => 4
  | .smem => 0
  | _ => 0

abbrev bufTy : (tb : Table) → Fin (tcTables nBuf tb) → BufTy
  | .hbm, ⟨0, _⟩ => ⟨S4x384x224x224, .f32⟩
  | .hbm, ⟨1, _⟩ => ⟨S4x2x2x384x112x112, .f32⟩
  | .hbm, ⟨2, _⟩ => ⟨S4x1536x112x112, .f32⟩
  | .local _ .vmem, ⟨0, _⟩ => ⟨S1x8x224x224, .f32⟩
  | .local _ .vmem, ⟨1, _⟩ => ⟨S1x8x224x224, .f32⟩
  | .local _ .vmem, ⟨2, _⟩ => ⟨S1x1x2x8x112x112, .f32⟩
  | .local _ .vmem, ⟨3, _⟩ => ⟨S1x1x2x8x112x112, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 48, 2], ![false, false, false]⟩

def k0_cond1 (i : grid0.Coords) : BitVec 1 :=
  let arg2 : BitVec 32 := BitVec.ofNat 32 (i 2).val
  let c0_i32_13 : BitVec 32 := 0#32
  let v54 : BitVec 1 := Scalar.cmpi .eq arg2 c0_i32_13
  let v55 : BitVec 32 := Scalar.extui v54
  let c0_i32_14 : BitVec 32 := 0#32
  let v56 : BitVec 1 := Scalar.cmpi .ne v55 c0_i32_14
  v56

def k0_cond2 (i : grid0.Coords) : BitVec 1 :=
  let arg2 : BitVec 32 := BitVec.ofNat 32 (i 2).val
  let c1_i32_15 : BitVec 32 := 1#32
  let v57 : BitVec 1 := Scalar.cmpi .eq arg2 c1_i32_15
  let v58 : BitVec 32 := Scalar.extui v57
  let c0_i32_16 : BitVec 32 := 0#32
  let v59 : BitVec 1 := Scalar.cmpi .ne v58 c0_i32_16
  v59

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg2.toNat, c0_i32.toNat, arg1.toNat, c0_i32_0.toNat, c0_i32_1.toNat]

abbrev stage0_0 : Fin 2 → Memref sig .tc .vmem S1x8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2x8x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S4x384x224x224 : Shape := ⟨4, ![4, 384, 224, 224]⟩
abbrev S4x96x448x448 : Shape := ⟨4, ![4, 96, 448, 448]⟩
abbrev S4x96x224x2x224x2 : Shape := ⟨6, ![4, 96, 224, 2, 224, 2]⟩
abbrev S4x96x2x2x224x224 : Shape := ⟨6, ![4, 96, 2, 2, 224, 224]⟩
abbrev S4x384x50176 : Shape := ⟨3, ![4, 384, 50176]⟩
abbrev S96 : Shape := ⟨1, ![96]⟩
abbrev S_ : Shape := ⟨0, ![]⟩
abbrev S384 : Shape := ⟨1, ![384]⟩
abbrev S384x1 : Shape := ⟨2, ![384, 1]⟩
abbrev S1 : Shape := ⟨1, ![1]⟩
abbrev S1x1 : Shape := ⟨2, ![1, 1]⟩
abbrev S4x1536x112x112 : Shape := ⟨4, ![4, 1536, 112, 112]⟩

abbrev nBuf : Space → Nat
  | .hbm => 49
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S4x96x448x448, .f32⟩
  | .hbm, ⟨2, _⟩ => ⟨S4x96x224x2x224x2, .f32⟩
  | .hbm, ⟨3, _⟩ => ⟨S4x96x2x2x224x224, .f32⟩
  | .hbm, ⟨4, _⟩ => ⟨S4x384x50176, .f32⟩
  | .hbm, ⟨5, _⟩ => ⟨S96, .i32⟩
  | .hbm, ⟨6, _⟩ => ⟨S_, .i32⟩
  | .hbm, ⟨7, _⟩ => ⟨S96, .i32⟩
  | .hbm, ⟨8, _⟩ => ⟨S96, .i32⟩
  | .hbm, ⟨9, _⟩ => ⟨S_, .i32⟩
  | .hbm, ⟨10, _⟩ => ⟨S96, .i32⟩
  | .hbm, ⟨11, _⟩ => ⟨S96, .i32⟩
  | .hbm, ⟨12, _⟩ => ⟨S_, .i32⟩
  | .hbm, ⟨13, _⟩ => ⟨S96, .i32⟩
  | .hbm, ⟨14, _⟩ => ⟨S96, .i32⟩
  | .hbm, ⟨15, _⟩ => ⟨S_, .i32⟩
  | .hbm, ⟨16, _⟩ => ⟨S96, .i32⟩
  | .hbm, ⟨17, _⟩ => ⟨S96, .i32⟩
  | .hbm, ⟨18, _⟩ => ⟨S_, .i32⟩
  | .hbm, ⟨19, _⟩ => ⟨S96, .i32⟩
  | .hbm, ⟨20, _⟩ => ⟨S96, .i32⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S384, .i32⟩
  | .hbm, ⟨25, _⟩ => ⟨S_, .i32⟩
  | .hbm, ⟨26, _⟩ => ⟨S384, .i32⟩
  | .hbm, ⟨27, _⟩ => ⟨S384, .i1⟩
  | .hbm, ⟨28, _⟩ => ⟨S_, .i32⟩
  | .hbm, ⟨29, _⟩ => ⟨S384, .i32⟩
  | .hbm, ⟨30, _⟩ => ⟨S384, .i32⟩
  | .hbm, ⟨31, _⟩ => ⟨S384, .i32⟩
  | .hbm, ⟨32, _⟩ => ⟨S384x1, .i32⟩
  | .hbm, ⟨33, _⟩ => ⟨S1, .i32⟩
  | .hbm, ⟨34, _⟩ => ⟨S_, .i32⟩
  | .hbm, ⟨35, _⟩ => ⟨S384x1, .i32⟩
  | .hbm, ⟨36, _⟩ => ⟨S384x1, .i1⟩
  | .hbm, ⟨37, _⟩ => ⟨S1x1, .i32⟩
  | .hbm, ⟨38, _⟩ => ⟨S384x1, .i32⟩
  | .hbm, ⟨39, _⟩ => ⟨S384x1, .i1⟩
  | .hbm, ⟨40, _⟩ => ⟨S384x1, .i1⟩
  | .hbm, ⟨41, _⟩ => ⟨S_, .i1⟩
  | .hbm, ⟨42, _⟩ => ⟨S384, .i1⟩
  | .hbm, ⟨43, _⟩ => ⟨S4x384x50176, .f32⟩
  | .hbm, ⟨44, _⟩ => ⟨S4x384x50176, .i1⟩
  | .hbm, ⟨45, _⟩ => ⟨S_, .f32⟩
  | .hbm, ⟨46, _⟩ => ⟨S4x384x50176, .f32⟩
  | .hbm, ⟨47, _⟩ => ⟨S4x384x50176, .f32⟩
  | .hbm, ⟨48, _⟩ => ⟨S4x1536x112x112, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Below.lean ====
/- What the precondition says of the argument: its predicate, the conjunction over all elements of the comparison
   with +∞, is true only where no element is +∞. -/
module

public import proofs.«01_k».proof.Defs
public import Idealize.ShloMosaic.Lib.ReduceAll
public import Idealize.ShloMosaic.Lib.Pointwise

@[expose] public section

noncomputable section

namespace Cert.Below

open Idealize.ShloMosaic Cert.Pre_below_infinity

/-- The shape relations the predicate states. -/
instance facts : Cert.Pre_below_infinity.Facts where
  bcast_S_S4x384x224x224 := by decide
  reducesTo_S4x384x224x224_S_d0_1_2_3 := by decide
  h_S_ := by decide

/-- Where the predicate holds, no element is +∞. -/
theorem ne_top (x : FVec Ideal S4x384x224x224 .f32) (h : fn (F := Ideal) x = fun _ => 1#1) (i : S4x384x224x224.Idx) :
    x i ≠ (⊤ : EReal) := by
  haveI : Subsingleton S_.Idx := ⟨fun a b => funext fun k => k.elim0⟩
  have e := Host.reduce_andi_all _ _ _ _ (fun k => k.elim0) (congrFun h fun k => k.elim0) i
  pointwise at e
  refine ne_top_of_lt (b := Ideal.ofBits FTy.f32 0x7F800000#32) (Classical.byContradiction fun hn => ?_)
  rw [decide_eq_false hn] at e
  exact absurd e (by decide)

end Cert.Below

end
-- ==== Proof.Pick.lean ====
/- The two facts of extended-real arithmetic that the kernel rests on. A number below +∞ is put together
   again from itself and its difference with itself, and a sum against a column of zeros with a single
   one picks out one term. -/
module

public import Idealize.ShloMosaic.Lib.Pointwise

@[expose] public section

noncomputable section

namespace Cert.Pick

open Idealize.ShloMosaic

/-- A number other than +∞, plus the difference of the number and itself, is the number. The difference
    is zero at a real number, and −∞ at −∞. -/
theorem add_sub_self {x : EReal} (hx : x ≠ ⊤) : x + (x - x) = x := by
  induction x with
  | bot => simp
  | coe r => rw [← EReal.coe_sub, sub_self, EReal.coe_zero, add_zero]
  | top => exact absurd rfl hx

/-- A sum weighted, on the left, by one at `s` and by zero elsewhere is the term at `s`. -/
theorem sum_left {n : ℕ} (w v : Fin n → EReal) (s : Fin n) (hw : ∀ k, w k = if k = s then 1 else 0) :
    ∑ k, w k * v k = v s := by
  rw [Finset.sum_eq_single s]
  · rw [hw, if_pos rfl, one_mul]
  · intro k _ hk
    rw [hw, if_neg hk, zero_mul]
  · intro h
    exact absurd (Finset.mem_univ s) h

/-- A sum weighted, on the right, by one at `s` and by zero elsewhere is the term at `s`. -/
theorem sum_right {n : ℕ} (w v : Fin n → EReal) (s : Fin n) (hw : ∀ k, w k = if k = s then 1 else 0) :
    ∑ k, v k * w k = v s := by
  rw [← sum_left w v s hw]
  exact Finset.sum_congr rfl fun k _ => mul_comm _ _

/-- Picking a term from the numbers and from their differences with themselves, and adding the two, gives
    the term, when it is not +∞ (weights on the left). -/
theorem both_left {n : ℕ} (w v : Fin n → EReal) (s : Fin n) (hw : ∀ k, w k = if k = s then 1 else 0) (hv : v s ≠ ⊤) :
    ∑ k, w k * v k + ∑ k, w k * (v k - v k) = v s := by
  rw [sum_left w v s hw, sum_left w (fun k => v k - v k) s hw, add_sub_self hv]

/-- The same with the weights on the right. -/
theorem both_right {n : ℕ} (w v : Fin n → EReal) (s : Fin n) (hw : ∀ k, w k = if k = s then 1 else 0) (hv : v s ≠ ⊤) :
    ∑ k, v k * w k + ∑ k, (v k - v k) * w k = v s := by
  rw [sum_right w v s hw, sum_right w (fun k => v k - v k) s hw, add_sub_self hv]

/-- The bit of an equality, widened to a word and turned into a number, is one where the equality holds
    and zero elsewhere. -/
theorem bit_eq (a b : BitVec 32) :
    FloatOps.sitofp (F := Ideal) FTy.f32 (BitVec.setWidth 32 (IntOp.cmpi CmpIPredicate.eq a b)) = if a = b then (1 : EReal) else 0 := by
  by_cases h : a = b
  · subst h
    rw [if_pos rfl, show IntOp.cmpi CmpIPredicate.eq a a = 1#1 from by simp [IntOp.cmpi]]
    show (((BitVec.setWidth 32 1#1).toInt : ℝ) : EReal) = 1
    norm_num
  · rw [if_neg h, show IntOp.cmpi CmpIPredicate.eq a b = 0#1 from by
      have hb : (a == b) = false := by simpa using h
      simp only [IntOp.cmpi, hb]
      rfl]
    show (((BitVec.setWidth 32 0#1).toInt : ℝ) : EReal) = 0
    norm_num

/-- Words of two numbers below 2³² are equal exactly when the numbers are. -/
theorem ofNat_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h
    rw [h]

end Cert.Pick

end
-- ==== Proof.Masks.lean ====
/- The two selection matrices of the kernel, entry by entry. The row matrix of the point with row offset
   `r` (0 or 2) has its one of row `o` in column 4·(o/2) + r + o mod 2. The column matrix has its one of
   column 128·w + b, for w below 2 and b below 112, in row 2·b + w. -/
module

public import proofs.«01_k».proof.Proof.Pick
public import proofs.«01_k».proof.Proof.Gen.KernelIdeal.Frame

@[expose] public section

set_option maxRecDepth 16384

noncomputable section

namespace Cert.KernelIdeal.Masks

open Idealize.ShloMosaic Idealize.ShloMosaic.TcCoe Cert.KernelIdeal Cert.KernelIdeal.Gen Cert.Pick

/-- The input row that output row `o` is taken from, at row offset `r`. -/
def srcRow (r : ℕ) (hr : r ≤ 2) (o : Fin 112) : Fin 224 := ⟨4 * (o.val / 2) + r + o.val % 2, by omega⟩

/-- The input column that output column `b` of column half `w` is taken from. -/
def srcCol (w : Fin 2) (b : Fin 112) : Fin 224 := ⟨2 * b.val + w.val, by omega⟩

/-- The word that the row matrix compares a column's number with, at row offset 0. -/
theorem rowWord_even (o : Fin 112) (k : Fin 224) :
    addi k0_pay6 (select k0_pay8 k0_pay9 k0_pay7) (ix2 o k) = BitVec.ofNat 32 (4 * (o.val / 2) + 0 + o.val % 2) := by
  pointwise [k0_pay6, k0_pay7, k0_pay8, k0_pay9]
  clear k
  revert o
  decide +kernel

/-- The word that the row matrix compares a column's number with, at row offset 2. -/
theorem rowWord_odd (o : Fin 112) (k : Fin 224) :
    addi k0_pay21 (select k0_pay23 k0_pay24 k0_pay22) (ix2 o k) = BitVec.ofNat 32 (4 * (o.val / 2) + 2 + o.val % 2) := by
  pointwise [k0_pay21, k0_pay22, k0_pay23, k0_pay24]
  clear k
  revert o
  decide +kernel

/-- The row matrix at row offset 0. -/
theorem row_even (o : Fin 112) (k : Fin 224) :
    k0_pay10 (F := Ideal) (iota Kind.tc S112x224 32 [1] iota_S112x224_d1_w32) k0_pay6 k0_pay7 k0_pay8 k0_pay9 (ix2 o k)
      = if k = srcRow 0 (by decide) o then (1 : EReal) else 0 := by
  have h := rowWord_even o k
  pointwise at h
  pointwise [k0_pay10]
  rw [h, bit_eq]
  refine if_congr ?_ rfl rfl
  rw [ofNat_eq_iff (by omega) (by omega), Fin.ext_iff]
  exact Iff.rfl

/-- The row matrix at row offset 2. -/
theorem row_odd (o : Fin 112) (k : Fin 224) :
    k0_pay25 (F := Ideal) (iota Kind.tc S112x224 32 [1] iota_S112x224_d1_w32) k0_pay21 k0_pay22 k0_pay23 k0_pay24 (ix2 o k)
      = if k = srcRow 2 (by decide) o then (1 : EReal) else 0 := by
  have h := rowWord_odd o k
  pointwise at h
  pointwise [k0_pay25]
  rw [h, bit_eq]
  refine if_congr ?_ rfl rfl
  rw [ofNat_eq_iff (by omega) (by omega), Fin.ext_iff]
  exact Iff.rfl

/-- The word that the column matrix compares a row's number with. -/
theorem colWord (k : Fin 224) (j : Fin 256) :
    addi (muli (broadcast S224x256 2#32) (select (andi k0_pay40 k0_pay39) (addi k0_pay38 (broadcast S224x256 128#32)) k0_pay38))
        k0_pay37 (ix2 k j) = BitVec.ofNat 32 (2 * (j.val % 128) + j.val / 128) := by
  pointwise [k0_pay37, k0_pay38, k0_pay39, k0_pay40]
  clear k
  revert j
  decide +kernel

/-- The bit by which the column matrix keeps a column: the column's place in its half is below 112. -/
theorem colBit (k : Fin 224) (j : Fin 256) (hj : j.val % 128 < 112) :
    cmpi .slt (select (andi k0_pay40 k0_pay39) (addi k0_pay38 (broadcast S224x256 128#32)) k0_pay38)
        (broadcast S224x256 112#32) (ix2 k j) = 1#1 := by
  pointwise [k0_pay37, k0_pay38, k0_pay39, k0_pay40]
  clear k
  revert j
  decide +kernel

/-- The column matrix at column 128·w + b. -/
theorem col (w : Fin 2) (b : Fin 112) (j : Fin 256) (hj : j.val = 128 * w.val + b.val) (k : Fin 224) :
    k0_pay1 (F := Ideal) (iota Kind.tc S224x256 32 [0] iota_S224x256_d0_w32) k0_pay37 (128#32) k0_pay38 k0_pay39 k0_pay40 (ix2 k j)
      = if k = srcCol w b then (1 : EReal) else 0 := by
  have h := colWord k j
  have h' := colBit k j (by omega)
  pointwise at h h'
  pointwise [k0_pay1]
  rw [h, h', show ∀ v : BitVec 1, IntOp.andi v 1#1 = v from by decide, bit_eq]
  refine if_congr ?_ rfl rfl
  rw [ofNat_eq_iff (by omega) (by omega), Fin.ext_iff]
  show k.val = _ ↔ k.val = 2 * b.val + w.val
  omega

end Cert.KernelIdeal.Masks

end
-- ==== Proof.Rows.lean ====
/- What the two selections make of the eight channels of a block. The row selection multiplies a matrix of
   zeros and ones into a channel and into the channel's difference with itself and adds the products; the
   column selection does the same on the right. Under any row matrix whose row `o` has its one in column
   `s o`, and any column matrix whose column `j` has its one in row `u`, the result at channel `ch`, row
   `o`, column `j` is the channel's element at row `s o`, column `u`, as long as no element is +∞. -/
module

public import proofs.«01_k».proof.Proof.Pick
public import proofs.«01_k».proof.Proof.Gen.KernelIdeal.Skeleton

@[expose] public section

set_option maxRecDepth 16384

noncomputable section

namespace Cert.KernelIdeal.Rows

open Idealize.ShloMosaic Idealize.ShloMosaic.TcCoe Cert.KernelIdeal Cert.KernelIdeal.Gen Cert.Pick

variable (x : FVec Ideal S8x224x224 .f32) (a b c : IVec S112x224 32) (d : IVec S112x224 1) (e : IVec S112x224 32)
  (s : Fin 112 → Fin 224)

/-- Channel 0 after the row selection. -/
theorem rows0 (hx : ∀ i, x i ≠ (⊤ : EReal)) (hp : ∀ o k, k0_pay10 (F := Ideal) a b c d e (ix2 o k) = if k = s o then (1 : EReal) else 0)
    (o : Fin 112) (k : Fin 224) : k0_pay11 x a b c d e (ix2 o k) = x (ix3 0 (s o) k) := by
  pointwise [k0_pay11]
  exact both_left _ (fun q => x (ix3 0 q k)) (s o) (hp o) (hx _)

/-- Channel 1 after the row selection. -/
theorem rows1 (hx : ∀ i, x i ≠ (⊤ : EReal)) (hp : ∀ o k, k0_pay10 (F := Ideal) a b c d e (ix2 o k) = if k = s o then (1 : EReal) else 0)
    (o : Fin 112) (k : Fin 224) : k0_pay12 x a b c d e (ix2 o k) = x (ix3 1 (s o) k) := by
  pointwise [k0_pay12]
  exact both_left _ (fun q => x (ix3 1 q k)) (s o) (hp o) (hx _)

/-- Channel 2 after the row selection. -/
theorem rows2 (hx : ∀ i, x i ≠ (⊤ : EReal)) (hp : ∀ o k, k0_pay10 (F := Ideal) a b c d e (ix2 o k) = if k = s o then (1 : EReal) else 0)
    (o : Fin 112) (k : Fin 224) : k0_pay13 x a b c d e (ix2 o k) = x (ix3 2 (s o) k) := by
  pointwise [k0_pay13]
  exact both_left _ (fun q => x (ix3 2 q k)) (s o) (hp o) (hx _)

/-- Channel 3 after the row selection. -/
theorem rows3 (hx : ∀ i, x i ≠ (⊤ : EReal)) (hp : ∀ o k, k0_pay10 (F := Ideal) a b c d e (ix2 o k) = if k = s o then (1 : EReal) else 0)
    (o : Fin 112) (k : Fin 224) : k0_pay14 x a b c d e (ix2 o k) = x (ix3 3 (s o) k) := by
  pointwise [k0_pay14]
  exact both_left _ (fun q => x (ix3 3 q k)) (s o) (hp o) (hx _)

/-- Channel 4 after the row selection: the two products, which the kernel adds later. -/
theorem rows4 (hx : ∀ i, x i ≠ (⊤ : EReal)) (hp : ∀ o k, k0_pay10 (F := Ideal) a b c d e (ix2 o k) = if k = s o then (1 : EReal) else 0)
    (o : Fin 112) (k : Fin 224) :
    k0_pay17 x a b c d e (ix2 o k) + k0_pay18 x a b c d e (ix2 o k) = x (ix3 4 (s o) k) := by
  pointwise [k0_pay17, k0_pay18, k0_pay15, k0_pay16]
  exact both_left _ (fun q => x (ix3 4 q k)) (s o) (hp o) (hx _)

/-- The eight channels stacked, after the column selection. -/
theorem both (hx : ∀ i, x i ≠ (⊤ : EReal)) (hp : ∀ o k, k0_pay10 (F := Ideal) a b c d e (ix2 o k) = if k = s o then (1 : EReal) else 0)
    (q : FVec Ideal S224x256 .bf16) (j : Fin 256) (u : Fin 224) (hq : ∀ k, q (ix2 k j) = if k = u then (1 : EReal) else 0)
    (ch : Fin 8) (o : Fin 112) :
    k0_pay19 x q (k0_pay10 a b c d e) (k0_pay11 x a b c d e) (k0_pay12 x a b c d e) (k0_pay13 x a b c d e)
        (k0_pay14 x a b c d e) (k0_pay17 x a b c d e) (k0_pay18 x a b c d e) (ix3 ch o j) = x (ix3 ch (s o) u) := by
  pointwise [k0_pay19]
  simp only [rows0 x a b c d e s hx hp, rows1 x a b c d e s hx hp, rows2 x a b c d e s hx hp, rows3 x a b c d e s hx hp,
    rows4 x a b c d e s hx hp]
  have h5 : ∀ k, ∑ r, k0_pay10 (F := Ideal) a b c d e (ix2 o r) * x (ix3 5 r k)
      + ∑ r, k0_pay10 (F := Ideal) a b c d e (ix2 o r) * (x (ix3 5 r k) - x (ix3 5 r k)) = x (ix3 5 (s o) k) :=
    fun k => both_left _ (fun r => x (ix3 5 r k)) (s o) (hp o) (hx _)
  have h6 : ∀ k, ∑ r, k0_pay10 (F := Ideal) a b c d e (ix2 o r) * x (ix3 6 r k)
      + ∑ r, k0_pay10 (F := Ideal) a b c d e (ix2 o r) * (x (ix3 6 r k) - x (ix3 6 r k)) = x (ix3 6 (s o) k) :=
    fun k => both_left _ (fun r => x (ix3 6 r k)) (s o) (hp o) (hx _)
  have h7 : ∀ k, ∑ r, k0_pay10 (F := Ideal) a b c d e (ix2 o r) * x (ix3 7 r k)
      + ∑ r, k0_pay10 (F := Ideal) a b c d e (ix2 o r) * (x (ix3 7 r k) - x (ix3 7 r k)) = x (ix3 7 (s o) k) :=
    fun k => both_left _ (fun r => x (ix3 7 r k)) (s o) (hp o) (hx _)
  simp only [h5, h6, h7]
  clear h5 h6 h7
  fin_cases ch <;> exact both_right _ (fun k => x (ix3 _ (s o) k)) u hq (hx _)

end Cert.KernelIdeal.Rows

end
-- ==== Proof.Block.lean ====
/- What one grid point leaves in its output block. The block of the point with row offset `r` (0 at an even
   point, 2 at an odd one) holds, at column half `w`, channel `ch`, row `o`, column `b`, the input block's
   element at channel `ch`, row 4·(o/2) + r + o mod 2, column 2·b + w, as long as no element of the input
   block is +∞. -/
module

public import proofs.«01_k».proof.Proof.Masks
public import proofs.«01_k».proof.Proof.Rows
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen Cert.KernelIdeal.Masks

/-- The element of an input block that goes to index `y` of the output block, at row offset `r`. -/
def src (r : ℕ) (hr : r ≤ 2) (y : S1x1x2x8x112x112.Idx) : S1x8x224x224.Idx :=
  ix4 0 (y 3) (srcRow r hr (y 4)) (srcCol (y 2) (y 5))

/-- The first store of a point takes the first 112 columns of the selected block. -/
theorem first_store (Z : FVec Ideal S8x112x256 .f32) (x : S1x1x1x8x112x112.Idx) (ch : Fin 8) (o b : Fin 112) (j : Fin 256)
    (h3 : (x 3).val = ch.val) (h4 : (x 4).val = o.val) (h5 : (x 5).val = b.val) (hj : j.val = b.val) :
    k0_pay2 (extractStridedSlice S8x112x112 ![0, 0, 0] Z slices_S8x112x256_o0_0_0_S8x112x112) x = Z (ix3 ch o j) := by
  obtain rfl : x 3 = ch := Fin.ext h3
  obtain rfl : x 4 = o := Fin.ext h4
  obtain rfl : x 5 = b := Fin.ext h5
  pointwise [k0_pay2]
  exact congrArg (fun q => Z (ix3 _ _ q)) (Fin.ext hj.symm)

/-- The second store of a point takes the 112 columns from column 128 on. -/
theorem second_store (Z : FVec Ideal S8x112x256 .f32) (x : S1x1x1x8x112x112.Idx) (ch : Fin 8) (o b : Fin 112) (j : Fin 256)
    (h3 : (x 3).val = ch.val) (h4 : (x 4).val = o.val) (h5 : (x 5).val = b.val) (hj : j.val = 128 + b.val) :
    k0_pay3 Z x = Z (ix3 ch o j) := by
  obtain rfl : x 3 = ch := Fin.ext h3
  obtain rfl : x 4 = o := Fin.ext h4
  obtain rfl : x 5 = b := Fin.ext h5
  pointwise [k0_pay3]
  exact congrArg (fun q => Z (ix3 _ _ q)) (Fin.ext hj.symm)

/-- The selected block of an even point, at channel `ch`, row `o` and column 128·w + b. -/
theorem selected_even (X : Vec Ideal S1x8x224x224 .f32) (hX : ∀ i, X i ≠ (⊤ : EReal)) (w : Fin 2) (ch : Fin 8) (o b : Fin 112)
    (j : Fin 256) (hj : j.val = 128 * w.val + b.val) :
    k0_pay19 (k0_pay36 X)
        (k0_pay1 (iota Kind.tc S224x256 32 [0] iota_S224x256_d0_w32) k0_pay37 (128#32) k0_pay38 k0_pay39 k0_pay40)
        (k0_pay10 (iota Kind.tc S112x224 32 [1] iota_S112x224_d1_w32) k0_pay6 k0_pay7 k0_pay8 k0_pay9)
        (k0_pay11 (k0_pay36 X) (iota Kind.tc S112x224 32 [1] iota_S112x224_d1_w32) k0_pay6 k0_pay7 k0_pay8 k0_pay9)
        (k0_pay12 (k0_pay36 X) (iota Kind.tc S112x224 32 [1] iota_S112x224_d1_w32) k0_pay6 k0_pay7 k0_pay8 k0_pay9)
        (k0_pay13 (k0_pay36 X) (iota Kind.tc S112x224 32 [1] iota_S112x224_d1_w32) k0_pay6 k0_pay7 k0_pay8 k0_pay9)
        (k0_pay14 (k0_pay36 X) (iota Kind.tc S112x224 32 [1] iota_S112x224_d1_w32) k0_pay6 k0_pay7 k0_pay8 k0_pay9)
        (k0_pay17 (k0_pay36 X) (iota Kind.tc S112x224 32 [1] iota_S112x224_d1_w32) k0_pay6 k0_pay7 k0_pay8 k0_pay9)
        (k0_pay18 (k0_pay36 X) (iota Kind.tc S112x224 32 [1] iota_S112x224_d1_w32) k0_pay6 k0_pay7 k0_pay8 k0_pay9)
        (ix3 ch o j) = X (ix4 0 ch (srcRow 0 (by decide) o) (srcCol w b)) := by
  refine (Rows.both (k0_pay36 X) _ _ _ _ _ (srcRow 0 (by decide)) ?_ row_even _ j (srcCol w b) (col w b j hj) ch o).trans ?_
  · intro i
    pointwise [k0_pay36]
    exact hX _
  · pointwise [k0_pay36]

/-- The selected block of an odd point. Its operations are those of an even point but for the row offset. -/
theorem selected_odd (X : Vec Ideal S1x8x224x224 .f32) (hX : ∀ i, X i ≠ (⊤ : EReal)) (w : Fin 2) (ch : Fin 8) (o b : Fin 112)
    (j : Fin 256) (hj : j.val = 128 * w.val + b.val) :
    k0_pay34 (k0_pay36 X)
        (k0_pay1 (iota Kind.tc S224x256 32 [0] iota_S224x256_d0_w32) k0_pay37 (128#32) k0_pay38 k0_pay39 k0_pay40)
        (k0_pay25 (iota Kind.tc S112x224 32 [1] iota_S112x224_d1_w32) k0_pay21 k0_pay22 k0_pay23 k0_pay24)
        (k0_pay26 (k0_pay36 X) (iota Kind.tc S112x224 32 [1] iota_S112x224_d1_w32) k0_pay21 k0_pay22 k0_pay23 k0_pay24)
        (k0_pay27 (k0_pay36 X) (iota Kind.tc S112x224 32 [1] iota_S112x224_d1_w32) k0_pay21 k0_pay22 k0_pay23 k0_pay24)
        (k0_pay28 (k0_pay36 X) (iota Kind.tc S112x224 32 [1] iota_S112x224_d1_w32) k0_pay21 k0_pay22 k0_pay23 k0_pay24)
        (k0_pay29 (k0_pay36 X) (iota Kind.tc S112x224 32 [1] iota_S112x224_d1_w32) k0_pay21 k0_pay22 k0_pay23 k0_pay24)
        (k0_pay32 (k0_pay36 X) (iota Kind.tc S112x224 32 [1] iota_S112x224_d1_w32) k0_pay21 k0_pay22 k0_pay23 k0_pay24)
        (k0_pay33 (k0_pay36 X) (iota Kind.tc S112x224 32 [1] iota_S112x224_d1_w32) k0_pay21 k0_pay22 k0_pay23 k0_pay24)
        (ix3 ch o j) = X (ix4 0 ch (srcRow 2 (by decide) o) (srcCol w b)) := by
  refine (Rows.both (k0_pay36 X) _ _ _ _ _ (srcRow 2 (by decide)) ?_ row_odd _ j (srcCol w b) (col w b j hj) ch o).trans ?_
  · intro i
    pointwise [k0_pay36]
    exact hX _
  · pointwise [k0_pay36]

/-- The output block after an even point. -/
theorem out_even (c : Dev nD) (i : grid0.Coords) (arg3 : Memref sig .tc .vmem S1x8x224x224 .f32) (harg3 : arg3.IsWhole)
    (arg4 : Memref sig .tc .vmem S1x1x2x8x112x112 .f32) (harg4 : arg4.IsWhole) (hc0 : cond0_0 i) (hc1 : ¬cond0_1 i)
    (X : Vec Ideal S1x8x224x224 .f32) (hX : ∀ i, X i ≠ (⊤ : EReal)) (y : S1x1x2x8x112x112.Idx) :
    out0_A_1 c i arg3 harg3 arg4 harg4 hc0 hc1 X y = X (src 0 (by decide) y) := by
  frame_out
  canon_tiles x h
  · refine (second_store _ x (y 3) (y 4) (y 5) ⟨128 + (y 5).val, by omega⟩ h3.symm h4.symm h5.symm rfl).trans ?_
    exact selected_even X hX (y 2) (y 3) (y 4) (y 5) _ (by show 128 + (y 5).val = 128 * (y 2).val + (y 5).val; omega)
  · refine (first_store _ x (y 3) (y 4) (y 5) ⟨(y 5).val, by omega⟩ h3.symm h4.symm h5.symm rfl).trans ?_
    exact selected_even X hX (y 2) (y 3) (y 4) (y 5) _ (by show (y 5).val = 128 * (y 2).val + (y 5).val; omega)

/-- The output block after an odd point. -/
theorem out_odd (c : Dev nD) (i : grid0.Coords) (arg3 : Memref sig .tc .vmem S1x8x224x224 .f32) (harg3 : arg3.IsWhole)
    (arg4 : Memref sig .tc .vmem S1x1x2x8x112x112 .f32) (harg4 : arg4.IsWhole) (hc0 : ¬cond0_0 i) (hc1 : cond0_1 i)
    (X : Vec Ideal S1x8x224x224 .f32) (hX : ∀ i, X i ≠ (⊤ : EReal)) (y : S1x1x2x8x112x112.Idx) :
    out0_B_1 c i arg3 harg3 arg4 harg4 hc0 hc1 X y = X (src 2 (by decide) y) := by
  frame_out
  canon_tiles x h
  · refine (second_store _ x (y 3) (y 4) (y 5) ⟨128 + (y 5).val, by omega⟩ h3.symm h4.symm h5.symm rfl).trans ?_
    exact selected_odd X hX (y 2) (y 3) (y 4) (y 5) _ (by show 128 + (y 5).val = 128 * (y 2).val + (y 5).val; omega)
  · refine (first_store _ x (y 3) (y 4) (y 5) ⟨(y 5).val, by omega⟩ h3.symm h4.symm h5.symm rfl).trans ?_
    exact selected_odd X hX (y 2) (y 3) (y 4) (y 5) _ (by show (y 5).val = 128 * (y 2).val + (y 5).val; omega)

end Cert.KernelIdeal.Block

end
-- ==== Proof.Array.lean ====
/- What the launch leaves in its result array. Every grid point writes its own block, and the blocks tile the
   array, so the array is one rearrangement of the argument: at image n, row half h, column half w, channel
   ch, row o, column b it holds the argument's element at image n, channel ch, row 4·(o/2) + 2·h + o mod 2,
   column 2·b + w, as long as no element of the argument is +∞. -/
module

public import proofs.«01_k».proof.Proof.Block

@[expose] public section

set_option maxRecDepth 16384

noncomputable section

namespace Cert.KernelIdeal.Array

open Idealize.ShloMosaic Idealize.ShloMosaic.TcCoe Cert.KernelIdeal Cert.KernelIdeal.Gen Cert.KernelIdeal.Masks

/-- The element of the argument that goes to index `i` of the result array. -/
def src (i : S4x2x2x384x112x112.Idx) : S4x384x224x224.Idx :=
  ix4 (i 0) (i 3) (srcRow (2 * (i 1).val) (by have h : (i 1).val < 2 := (i 1).isLt; omega) (i 4)) (srcCol (i 2) (i 5))

variable (m : (ℓ : Loc nD τ sig) → Buf (Elt Ideal) ℓ) (c : Dev nD)

/-- The block of the argument that point `t` reads. -/
theorem in_index : ∀ t : Fin cfg0.N, win0_0.index t = ![t.val / 96, t.val / 2 % 48, 0, 0] := by decide +kernel

/-- The block of the result that point `t` writes. -/
theorem out_index : ∀ t : Fin cfg0.N, win0_1.index t = ![t.val / 96, t.val % 2, 0, t.val / 2 % 48, 0, 0] := by decide +kernel

/-- Where point `t`'s input block and output block meet: what goes to an index of the output block comes from the
    element of the argument that goes to that index's place in the result array. -/
theorem src_emb (t : Fin cfg0.N) (r : ℕ) (hr : r ≤ 2) (h : r = 2 * (t.val % 2)) (y : S1x1x2x8x112x112.Idx) :
    (win0_0.blk t).view.emb (Block.src r hr y) = src ((win0_1.blk t).view.emb y) := by
  funext a
  apply Fin.ext
  fin_cases a
  · show ((win0_0.blk t).view.emb (Block.src r hr y) 0 : ℕ) = ((win0_1.blk t).view.emb y 0 : ℕ)
    blk_simp [in_index, out_index]
  · show ((win0_0.blk t).view.emb (Block.src r hr y) 1 : ℕ) = ((win0_1.blk t).view.emb y 3 : ℕ)
    blk_simp [in_index, out_index]
    rfl
  · show ((win0_0.blk t).view.emb (Block.src r hr y) 2 : ℕ)
      = 4 * (((win0_1.blk t).view.emb y 4 : ℕ) / 2) + 2 * ((win0_1.blk t).view.emb y 1 : ℕ) + ((win0_1.blk t).view.emb y 4 : ℕ) % 2
    blk_simp [in_index, out_index]
    rw [← h]
    rfl
  · show ((win0_0.blk t).view.emb (Block.src r hr y) 3 : ℕ)
      = 2 * ((win0_1.blk t).view.emb y 5 : ℕ) + ((win0_1.blk t).view.emb y 2 : ℕ)
    blk_simp [in_index, out_index]
    rfl

/-- The result array after the launch. -/
theorem array (hx : ∀ i, m ((c.tc : Thread nD τ).loc main_arg0) i ≠ (⊤ : EReal)) :
    (dats m 0 c).arrAt 1 cfg0.N = fun i => m ((c.tc : Thread nD τ).loc main_arg0) (src i) := by
  have hb : ∀ t i, iblk m c 0 t i ≠ (⊤ : EReal) := fun t i => by
    blk_simp [iblk]
    exact hx _
  refine (dats m 0 c).arrAt_eq_of_covers 1 _ (by decide +kernel) fun t hf y => ?_
  blk_simp
  rw [after0_1]
  by_cases h0 : t.val % 2 = 0
  · rw [outsAt0_A m c t h0 (by omega), Block.out_even _ _ _ _ _ _ _ _ _ (hb t)]
    blk_simp [iblk]
    rw [src_emb t 0 _ (by omega) y]
    rfl
  · rw [outsAt0_B m c t h0 (by omega), Block.out_odd _ _ _ _ _ _ _ _ _ (hb t)]
    blk_simp [iblk]
    rw [src_emb t 2 _ (by omega) y]
    rfl

end Cert.KernelIdeal.Array

end
-- ==== Proof.Reference.lean ====
/- What the reference computes. It regroups the argument, permutes the channels by a table of 384 channel numbers, and
   regroups again. The table's numbers are all within range, so the fill value is never taken, and each element of the
   result is one element of the argument. -/
module

public import proofs.«01_k».proof.Proof.Gen.ReferenceIdeal.Read
public import Idealize.ShloMosaic.Lib.ReduceAll
public import Idealize.ShloMosaic.Lib.Pointwise

@[expose] public section

set_option maxRecDepth 16384

noncomputable section

namespace Cert.ReferenceIdeal.Order

open Idealize.ShloMosaic Cert.ReferenceIdeal Cert.ReferenceIdeal.Gen Cert.ReferenceIdeal.Read

/-- The channel that the table's entry `k` names. -/
def chan (k : Fin 384) : Fin 384 := ⟨4 * (k.val % 96) + k.val / 96, by omega⟩

/-- The table, concatenated from four runs of 96 numbers, holds at `k` the number of the channel `chan k`. -/
theorem table (k : Fin 384) : val_main_v17 (F := Ideal) (ix1 k) = BitVec.ofNat 32 (chan k).val := by
  unfold val_main_v17
  pointwise [val_main_v10, val_main_v12, val_main_v14, val_main_v16, val_main_v8, val_main_v9, val_main_v7,
    val_main_v6, val_main_v5, val_main_v4, val_main_v11, val_main_v13, val_main_v15, val_main_c, val_main_c_0,
    val_main_c_1, val_main_c_2, val_main_c_3, val_main_c_4]
  revert k
  decide +kernel

/-- No entry of the table is negative, so the entries pass the wrapping of negative numbers as they are. -/
theorem wrapped (k : Fin 384) : val_main_call0_v5 (F := Ideal) (ix2 k (0 : Fin 1)) = BitVec.ofNat 32 (chan k).val := by
  unfold val_main_call0_v5
  pointwise [val_main_call0_v4, val_main_call0_v3, val_main_call0_v2, val_main_call0_v1, val_main_call0_v0,
    val_main_call0_c, val_main_call0_c_0]
  rw [table]
  revert k
  decide +kernel

/-- Every entry of the table is within range. -/
theorem in_range (k : S384.Idx) : val_main_call0_v12 (F := Ideal) k = 1#1 := by
  refine Host.reduce_andi_one _ _ _ _ _ rfl fun i => ?_
  obtain ⟨a, rfl⟩ : ∃ a : Fin 384, i = ix2 a (0 : Fin 1) :=
    ⟨i 0, funext fun b => by
      fin_cases b
      · rfl
      · exact Subsingleton.elim (α := Fin 1) _ _⟩
  pointwise [val_main_call0_v11, val_main_call0_v10, val_main_call0_v9, val_main_call0_v8, val_main_call0_v7,
    val_main_call0_v6, val_main_call0_c_1, val_main_call0_c_2]
  rw [wrapped]
  revert a
  decide +kernel

/-- The gather reads, for its channel `k`, the channel that the index array names. -/
theorem gathered (x : S4x384x50176.Idx → EReal) (idx : IVec S384x1 32) (n : Fin 4) (k d : Fin 384) (p : Fin 50176)
    (h : idx (ix2 k (0 : Fin 1)) = BitVec.ofNat 32 d.val) :
    Host.gather gather_S4x384x50176_S384x1_S4x384x50176_02_1_n_n_1_1_4150176 x idx (ix3 n k p) = x (ix3 n d p) := by
  unfold Host.gather
  refine congrArg x (funext fun a => Fin.ext ?_)
  have hs : ((gather_S4x384x50176_S384x1_S4x384x50176_02_1_n_n_1_1_4150176).siIdx (ix3 n k p) ⟨0, by decide⟩)
      = ix2 k (0 : Fin 1) := by
    funext b
    fin_cases b
    · rfl
    · rfl
  fin_cases a
  · show 0 + 0 + n.val = n.val
    omega
  · show min (idx ((gather_S4x384x50176_S384x1_S4x384x50176_02_1_n_n_1_1_4150176).siIdx (ix3 n k p) ⟨0, by decide⟩)).toInt.toNat 383
      + 0 + 0 = d.val
    rw [hs, h]
    clear h
    revert d
    decide +kernel
  · show 0 + 0 + p.val = p.val
    omega

/-- The first regrouping: the element of channel `d` at place `p` is the argument's in channel
    `4·(d / 4) + p / 12544`, at the row and column that the rest of `p` and of `d` give. -/
theorem regrouped (x : (⟨S4x384x224x224, .f32⟩ : BufTy).Contents (Elt Ideal)) (n : Fin 4) (d : Fin 384) (p : Fin 50176)
    (e : Fin 384) (r w : Fin 224)
    (he : d.val / 4 * 4 + p.val / 224 / 56 = e.val)
    (hr : p.val / 224 % 56 * 4 + d.val / 2 % 2 * 2 + p.val % 224 / 112 = r.val)
    (hw : p.val % 224 % 112 * 2 + d.val % 2 = w.val) :
    val_main_v3 (F := Ideal) x (ix3 n d p) = x (ix4 n e r w) := by
  unfold val_main_v3
  pointwise [val_main_v2, val_main_v1, val_main_v0]
  simp only [he, hr, hw]

/-- The element at place `p` of channel `k` after the permutation. -/
theorem permuted (x : (⟨S4x384x224x224, .f32⟩ : BufTy).Contents (Elt Ideal)) (n : Fin 4) (k : Fin 384) (p : Fin 50176) :
    val_main_v18 (F := Ideal) x (ix3 n k p) = val_main_v3 (F := Ideal) x (ix3 n (chan k) p) := by
  rw [val_main_v18_apply, val_main_call0_v14_apply, in_range]
  exact gathered (val_main_v3 x) _ n k (chan k) p (wrapped k)

end Cert.ReferenceIdeal.Order

end
-- ==== Proof.Equation.lean ====
/- The equation. The kernel's result array, its axes of row half, column half and channel read as one, and the
   reference's result hold the same element of the argument at every index. -/
module

public import proofs.«01_k».proof.Proof.Array
public import proofs.«01_k».proof.Proof.Reference

@[expose] public section

set_option maxRecDepth 16384

noncomputable section

namespace Cert.Equation

open Idealize.ShloMosaic Cert.ReferenceIdeal.Read Cert.ReferenceIdeal.Order

/-- Row and column, in a plane of 224 columns, of the place that two rows of 112 columns share. -/
theorem place (s o b : ℕ) (hb : b < 112) :
    (s * 12544 + o * 112 + b) / 224 = s * 56 + o / 2 ∧ (s * 12544 + o * 112 + b) % 224 = o % 2 * 112 + b := by
  omega

/-- The channel that the table names for the result channel `q`: in groups of four it lies in group `q / 4 mod 96`,
    and its two low bits are the row half and the column half of `q`. -/
theorem halves : ∀ q : Fin 1536,
    (4 * (q.val / 4 % 96) + q.val / 4 / 96) / 4 = q.val / 4 % 96
    ∧ (4 * (q.val / 4 % 96) + q.val / 4 / 96) / 2 % 2 = q.val / 768
    ∧ (4 * (q.val / 4 % 96) + q.val / 4 / 96) % 2 = q.val / 384 % 2 := by
  decide +kernel

/-- The rearrangement that the launch makes, with three axes joined to one, is the reference's. -/
theorem equal (x : FVec Ideal Cert.KernelIdeal.S4x384x224x224 .f32) :
    shapeCast Cert.KernelIdeal.S4x1536x112x112 (fun i => x (Cert.KernelIdeal.Array.src i))
      Cert.KernelIdeal.Gen.shapeCasts_S4x2x2x384x112x112_S4x1536x112x112 = val_main_v19 (F := Ideal) x := by
  funext j
  idx_vars j
  have h1 : j1.val < 1536 := j1.isLt
  have h2 : j2.val < 112 := j2.isLt
  have h3 : j3.val < 112 := j3.isLt
  obtain ⟨p1, p2⟩ := place (j1.val % 4) j2.val j3.val h3
  obtain ⟨c0, c1, c2⟩ := halves j1
  unfold val_main_v19
  pointwise
  rw [permuted]
  refine (regrouped x j0 _ _ _ _ _ ?_ ?_ ?_).symm
  · show (4 * (j1.val / 4 % 96) + j1.val / 4 / 96) / 4 * 4 + (j1.val % 4 * 12544 + j2.val * 112 + j3.val) / 224 / 56
      = j1.val % 384
    rw [p1, c0]
    omega
  · show (j1.val % 4 * 12544 + j2.val * 112 + j3.val) / 224 % 56 * 4
        + (4 * (j1.val / 4 % 96) + j1.val / 4 / 96) / 2 % 2 * 2
        + (j1.val % 4 * 12544 + j2.val * 112 + j3.val) % 224 / 112
      = 4 * (j2.val / 2) + 2 * (j1.val / 768) + j2.val % 2
    rw [p1, p2, c1]
    omega
  · show (j1.val % 4 * 12544 + j2.val * 112 + j3.val) % 224 % 112 * 2 + (4 * (j1.val / 4 % 96) + j1.val / 4 / 96) % 2
      = 2 * j3.val + j1.val / 384 % 2
    rw [p2, c2]
    omega

end Cert.Equation

end
-- ==== Proof.lean ====
/- The kernel and the reference compute the same array. The modules of Proof/ hold the mathematics: what one block
   computes (Pick, Masks, Rows, Block), what the launch leaves in its result array (Array), what the reference computes
   (Reference), what the precondition says (Below), and the equation between the two results (Equation). Here they are
   put together with the runs of the programs. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Below
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The reference runs, leaves its argument as it was and every counter at zero. -/
theorem reference_frame : Cert.quiescent_ReferenceIdeal := by
  intro m g _
  exact θ_run_mono (Cert.ReferenceIdeal.Value.run m g) fun r h =>
    ⟨fun c => (h c).2, sem_eq_zero_of_no_sems (sig := Cert.ReferenceIdeal.sig) rfl _⟩

/-- The kernel's result after its last operation, which joins three axes of the launch's array, is the reference's. -/
theorem kernel_result (m : (ℓ : Loc Cert.KernelIdeal.nD Cert.KernelIdeal.τ Cert.KernelIdeal.sig) → Buf (Elt Ideal) ℓ)
    (c : Dev Cert.KernelIdeal.nD)
    (hx : ∀ i, m ((c.tc : Thread Cert.KernelIdeal.nD Cert.KernelIdeal.τ).loc Cert.KernelIdeal.main_arg0) i ≠ (⊤ : EReal)) :
    Pipeline.afterTail₀ Cert.KernelIdeal.cfgs (Cert.KernelIdeal.Gen.dats m) 0 (Cert.KernelIdeal.Gen.V0 m)
        [Cert.KernelIdeal.Gen.hostOps1] c Cert.KernelIdeal.main_v1
      = Cert.ReferenceIdeal.Read.val_main_v19
          (m ((c.tc : Thread Cert.KernelIdeal.nD Cert.KernelIdeal.τ).loc Cert.KernelIdeal.main_arg0)) := by
  rw [← Cert.Equation.equal, ← Cert.KernelIdeal.Array.array m c hx]
  unfold Pipeline.afterTail₀
  simp only [Cert.KernelIdeal.Gen.hostOps1, List.flatten_cons, List.flatten_nil, List.append_nil]
  after_results
  exact congrArg (fun y => shapeCast Cert.KernelIdeal.S4x1536x112x112 y
      Cert.KernelIdeal.Gen.shapeCasts_S4x2x2x384x112x112_S4x1536x112x112)
    (Pipeline.withArrays_arr (Cert.KernelIdeal.cfgs 0).spec (by decide) c (Cert.KernelIdeal.Gen.V0 m c)
      (fun w => (Cert.KernelIdeal.Gen.dats m 0 c).arrAt w (Cert.KernelIdeal.cfgs 0).N) 1)

/-- Kernel and reference end with the same result, for arguments without an element +∞. -/
theorem algebraic : Cert.algebraic_KernelIdeal_ReferenceIdeal_pre_below_infinity := by
  intro m g m' g' hpre hagree
  refine ⟨fun c => Cert.ReferenceIdeal.Read.val_main_v19 (m ((c.tc : Thread Cert.KernelIdeal.nD Cert.KernelIdeal.τ).loc Cert.KernelIdeal.main_arg0)), ?_, ?_⟩
  · run_from Cert.KernelIdeal.Gen.run_main m g
    exact kernel_result m c (fun i => Cert.Below.ne_top _ (hpre c) i)
  · run_from Cert.ReferenceIdeal.Value.run m' g'
    rw [Cert.ReferenceIdeal.Read.val_main_v19_eq, hagree]

/-- All the claims. -/
theorem claim : Cert.Claim :=
  ⟨Cert.Kernel.Gen.facts, Cert.KernelIdeal.Gen.facts, Cert.ReferenceIdeal.Gen.facts, Cert.Below.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
